-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_last_field_ternary [hPre_last_field_ternary : Cert.Pre_last_field_ternary.Facts] (m : (ℓ : Loc Cert.KernelIdeal.nD Cert.KernelIdeal.τ Cert.KernelIdeal.sig) → Buf (Elt Ideal) ℓ) : Prop :=
  ∀ c : Dev Cert.KernelIdeal.nD,
    (Cert.Pre_last_field_ternary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_last_field_ternary [hPre_last_field_ternary : Cert.Pre_last_field_ternary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_last_field_ternary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_last_field_ternary [hKernelIdeal : Cert.KernelIdeal.Facts] [hPre_last_field_ternary : Cert.Pre_last_field_ternary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_last_field_ternary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_last_field_ternary [hReferenceIdeal : Cert.ReferenceIdeal.Facts] [hPre_last_field_ternary : Cert.Pre_last_field_ternary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_last_field_ternary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_last_field_ternary [hKernelIdeal : Cert.KernelIdeal.Facts] [hReferenceIdeal : Cert.ReferenceIdeal.Facts] [hPre_last_field_ternary : Cert.Pre_last_field_ternary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_last_field_ternary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_last_field_ternary : Cert.Pre_last_field_ternary.Facts),
    quiescent_Kernel (hKernel := hKernel)
    ∧ quiescent_KernelIdeal (hKernelIdeal := hKernelIdeal)
    ∧ quiescent_KernelIdeal_pre_last_field_ternary (hKernelIdeal := hKernelIdeal) (hPre_last_field_ternary := hPre_last_field_ternary)
    ∧ quiescent_ReferenceIdeal (hReferenceIdeal := hReferenceIdeal)
    ∧ quiescent_ReferenceIdeal_pre_last_field_ternary (hReferenceIdeal := hReferenceIdeal) (hPre_last_field_ternary := hPre_last_field_ternary)
    ∧ preserves_Kernel_KernelIdeal
    ∧ algebraic_KernelIdeal_ReferenceIdeal_pre_last_field_ternary (hKernelIdeal := hKernelIdeal) (hReferenceIdeal := hReferenceIdeal) (hPre_last_field_ternary := hPre_last_field_ternary)
-- ==== Pre_last_field_ternary.lean ====
abbrev S128x1x8192 : Shape := ⟨3, ![128, 1, 8192]⟩
abbrev S2048x7168 : Shape := ⟨2, ![2048, 7168]⟩
abbrev S_ : Shape := ⟨0, ![]⟩

class Facts : Prop where
  natLt_8_32 : 8 < 32
  bcast_S_S2048x7168 : S_.BroadcastsInDim S2048x7168 (![] : Fin 0 → Fin S2048x7168.rank)

variable [Facts]

def fn {F : FTy → Type} [FloatOps F] (main_arg0 : FVec F S128x1x8192 .bf16) (main_arg1 : IVec S2048x7168 8) (main_arg2 : FVec F S_ .f32) : IVec S2048x7168 1 :=
  let main_v0 : IVec S2048x7168 32 := (extui 32 · natLt_8_32) main_arg1
  let main_c : IVec S_ 32 := constantI S_ 32 192#32
  let main_v1 : IVec S2048x7168 32 := broadcastInDim S2048x7168 ![] bcast_S_S2048x7168 main_c
  let main_v2 : IVec S2048x7168 1 := cmpi .slt main_v0 main_v1
  main_v2
-- ==== Kernel.lean ====
abbrev S128x1x8192 : Shape := ⟨3, ![128, 1, 8192]⟩
abbrev S2048x7168 : Shape := ⟨2, ![2048, 7168]⟩
abbrev S_ : Shape := ⟨0, ![]⟩
abbrev S1x1 : Shape := ⟨2, ![1, 1]⟩
abbrev S128x8192 : Shape := ⟨2, ![128, 8192]⟩
abbrev S128x7168 : Shape := ⟨2, ![128, 7168]⟩
abbrev S2048x512 : Shape := ⟨2, ![2048, 512]⟩
abbrev S128x512 : Shape := ⟨2, ![128, 512]⟩
abbrev S256x512 : Shape := ⟨2, ![256, 512]⟩
abbrev S128x128 : Shape := ⟨2, ![128, 128]⟩
abbrev S128x256 : Shape := ⟨2, ![128, 256]⟩
abbrev S128x1x7168 : Shape := ⟨3, ![128, 1, 7168]⟩

abbrev nBuf : Space → Nat
  | .hbm => 7
  | .vmem => 5
  | .smem => 1
  | _ => 0

abbrev bufTy : (tb : Table) → Fin (tcTables nBuf tb) → BufTy
  | .hbm, ⟨0, _⟩ => ⟨S128x1x8192, .bf16⟩
  | .hbm, ⟨1, _⟩ => ⟨S2048x7168, .i8⟩
  | .hbm, ⟨2, _⟩ => ⟨S_, .f32⟩
  | .hbm, ⟨3, _⟩ => ⟨S1x1, .f32⟩
  | .hbm, ⟨4, _⟩ => ⟨S128x8192, .bf16⟩
  | .hbm, ⟨5, _⟩ => ⟨S128x7168, .bf16⟩
  | .hbm, ⟨6, _⟩ => ⟨S128x1x7168, .bf16⟩
  | .local _ .vmem, ⟨0, _⟩ => ⟨S128x8192, .bf16⟩
  | .local _ .vmem, ⟨1, _⟩ => ⟨S2048x512, .i8⟩
  | .local _ .vmem, ⟨2, _⟩ => ⟨S2048x512, .i8⟩
  | .local _ .vmem, ⟨3, _⟩ => ⟨S128x512, .bf16⟩
  | .local _ .vmem, ⟨4, _⟩ => ⟨S128x512, .bf16⟩
  | .local _ .smem, ⟨0, _⟩ => ⟨S1x1, .f32⟩
  | _, _ => ⟨S128x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S128x1x8192 : Shape := ⟨3, ![128, 1, 8192]⟩
abbrev S2048x7168 : Shape := ⟨2, ![2048, 7168]⟩
abbrev S_ : Shape := ⟨0, ![]⟩
abbrev S128x1x2048 : Shape := ⟨3, ![128, 1, 2048]⟩
abbrev S128x1x7168 : Shape := ⟨3, ![128, 1, 7168]⟩

abbrev nBuf : Space → Nat
  | .hbm => 61
  | .vmem => 0
  | .smem => 0
  | _ => 0

abbrev bufTy : (tb : Table) → Fin (tcTables nBuf tb) → BufTy
  | .hbm, ⟨0, _⟩ => ⟨S128x1x8192, .bf16⟩
  | .hbm, ⟨1, _⟩ => ⟨S2048x7168, .i8⟩
  | .hbm, ⟨2, _⟩ => ⟨S_, .f32⟩
  | .hbm, ⟨3, _⟩ => ⟨S128x1x2048, .bf16⟩
  | .hbm, ⟨4, _⟩ => ⟨S2048x7168, .i32⟩
  | .hbm, ⟨5, _⟩ => ⟨S_, .i32⟩
  | .hbm, ⟨6, _⟩ => ⟨S2048x7168, .i32⟩
  | .hbm, ⟨7, _⟩ => ⟨S2048x7168, .i32⟩
  | .hbm, ⟨8, _⟩ => ⟨S_, .i32⟩
  | .hbm, ⟨9, _⟩ => ⟨S2048x7168, .i32⟩
  | .hbm, ⟨10, _⟩ => ⟨S2048x7168, .i32⟩
  | .hbm, ⟨11, _⟩ => ⟨S2048x7168, .bf16⟩
  | .hbm, ⟨12, _⟩ => ⟨S_, .bf16⟩
  | .hbm, ⟨13, _⟩ => ⟨S2048x7168, .bf16⟩
  | .hbm, ⟨14, _⟩ => ⟨S2048x7168, .bf16⟩
  | .hbm, ⟨15, _⟩ => ⟨S128x1x7168, .f32⟩
  | .hbm, ⟨16, _⟩ => ⟨S128x1x2048, .bf16⟩
  | .hbm, ⟨17, _⟩ => ⟨S2048x7168, .i32⟩
  | .hbm, ⟨18, _⟩ => ⟨S_, .i32⟩
  | .hbm, ⟨19, _⟩ => ⟨S2048x7168, .i32⟩
  | .hbm, ⟨20, _⟩ => ⟨S2048x7168, .i32⟩
  | .hbm, ⟨21, _⟩ => ⟨S_, .i32⟩
  | .hbm, ⟨22, _⟩ => ⟨S2048x7168, .i32⟩
  | .hbm, ⟨23, _⟩ => ⟨S2048x7168, .i32⟩
  | .hbm, ⟨24, _⟩ => ⟨S2048x7168, .bf16⟩
  | .hbm, ⟨25, _⟩ => ⟨S_, .bf16⟩
  | .hbm, ⟨26, _⟩ => ⟨S2048x7168, .bf16⟩
  | .hbm, ⟨27, _⟩ => ⟨S2048x7168, .bf16⟩
  | .hbm, ⟨28, _⟩ => ⟨S128x1x7168, .f32⟩
  | .hbm, ⟨29, _⟩ => ⟨S128x1x7168, .f32⟩
  | .hbm, ⟨30, _⟩ => ⟨S128x1x2048, .bf16⟩
  | .hbm, ⟨31, _⟩ => ⟨S2048x7168, .i32⟩
  | .hbm, ⟨32, _⟩ => ⟨S_, .i32⟩
  | .hbm, ⟨33, _⟩ => ⟨S2048x7168, .i32⟩
  | .hbm, ⟨34, _⟩ => ⟨S2048x7168, .i32⟩
  | .hbm, ⟨35, _⟩ => ⟨S_, .i32⟩
  | .hbm, ⟨36, _⟩ => ⟨S2048x7168, .i32⟩
  | .hbm, ⟨37, _⟩ => ⟨S2048x7168, .i32⟩
  | .hbm, ⟨38, _⟩ => ⟨S2048x7168, .bf16⟩
  | .hbm, ⟨39, _⟩ => ⟨S_, .bf16⟩
  | .hbm, ⟨40, _⟩ => ⟨S2048x7168, .bf16⟩
  | .hbm, ⟨41, _⟩ => ⟨S2048x7168, .bf16⟩
  | .hbm, ⟨42, _⟩ => ⟨S128x1x7168, .f32⟩
  | .hbm, ⟨43, _⟩ => ⟨S128x1x7168, .f32⟩
  | .hbm, ⟨44, _⟩ => ⟨S128x1x2048, .bf16⟩
  | .hbm, ⟨45, _⟩ => ⟨S2048x7168, .i32⟩
  | .hbm, ⟨46, _⟩ => ⟨S_, .i32⟩
  | .hbm, ⟨47, _⟩ => ⟨S2048x7168, .i32⟩
  | .hbm, ⟨48, _⟩ => ⟨S2048x7168, .i32⟩
  | .hbm, ⟨49, _⟩ => ⟨S_, .i32⟩
  | .hbm, ⟨50, _⟩ => ⟨S2048x7168, .i32⟩
  | .hbm, ⟨51, _⟩ => ⟨S2048x7168, .i32⟩
  | .hbm, ⟨52, _⟩ => ⟨S2048x7168, .bf16⟩
  | .hbm, ⟨53, _⟩ => ⟨S_, .bf16⟩
  | .hbm, ⟨54, _⟩ => ⟨S2048x7168, .bf16⟩
  | .hbm, ⟨55, _⟩ => ⟨S2048x7168, .bf16⟩
  | .hbm, ⟨56, _⟩ => ⟨S128x1x7168, .f32⟩
  | .hbm, ⟨57, _⟩ => ⟨S128x1x7168, .f32⟩
  | .hbm, ⟨58, _⟩ => ⟨S128x1x7168, .f32⟩
  | .hbm, ⟨59, _⟩ => ⟨S128x1x7168, .f32⟩
  | .hbm, ⟨60, _⟩ => ⟨S128x1x7168, .bf16⟩
  | _, _ => ⟨S128x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_7 : Ref sig .tc := ⟨.hbm, 46, rfl⟩
abbrev main_v34 : Ref sig .tc := ⟨.hbm, 47, rfl⟩
abbrev main_v35 : Ref sig .tc := ⟨.hbm, 48, rfl⟩
abbrev main_c_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Proof.Trit.lean ====
/- One 2-bit code of a packed byte as an extended real: the kernel's reading of it (the code laid into the
   significand of a bf16 number, a constant subtracted) and the reference's (shift, mask, convert, subtract one)
   are both the code minus one. -/
module

public import Idealize.ShloMosaic.PureOps.Ideal
public import Mathlib.Tactic.NormNum

@[expose] public section

noncomputable section

namespace Cert.Ternary

open Idealize.ShloMosaic

/-- The 2-bit code in field `j` of byte `w`. -/
def code (j : Nat) (w : BitVec 8) : Nat := w.toNat / 4 ^ j % 4

/-- The weight in field `j` of byte `w`: its code minus one. -/
def trit (j : Nat) (w : BitVec 8) : EReal := (((code j w : ℝ) - 1 : ℝ) : EReal)

/-- The bf16 pattern the kernel makes of byte `w` under a field's mask. -/
abbrev word (mask : BitVec 16) (w : BitVec 8) : BitVec 16 := (w.setWidth 16 ||| 17152#16) &&& mask

/-- What the kernel makes of field 0: 128 plus the code, less 129. -/
theorem kernel_trit0 (w : BitVec 8) :
    Ideal.ofBits .bf16 (word 17155#16 w) - Ideal.ofBits .bf16 0x4301#16 = trit 0 w := by
  have key : ∀ n : Fin 256, let w : BitVec 8 := BitVec.ofFin n
      (word 17155#16 w = 0x4300#16 ∧ code 0 w = 0) ∨ (word 17155#16 w = 0x4301#16 ∧ code 0 w = 1)
      ∨ (word 17155#16 w = 0x4302#16 ∧ code 0 w = 2) ∨ (word 17155#16 w = 0x4303#16 ∧ code 0 w = 3) := by decide +kernel
  rcases key w.toFin with ⟨h, hc⟩ | ⟨h, hc⟩ | ⟨h, hc⟩ | ⟨h, hc⟩ <;>
    (change word 17155#16 w = _ at h; change code 0 w = _ at hc
     rw [h, trit, hc]; simp [Ideal.ofBits, Ideal.ieee, -EReal.coe_mul, ← EReal.coe_sub]; try norm_num)

/-- What the kernel makes of field 1: 32 plus the code, less 33. -/
theorem kernel_trit1 (w : BitVec 8) :
    Ideal.ofBits .bf16 (word 16908#16 w) - Ideal.ofBits .bf16 0x4204#16 = trit 1 w := by
  have key : ∀ n : Fin 256, let w : BitVec 8 := BitVec.ofFin n
      (word 16908#16 w = 0x4200#16 ∧ code 1 w = 0) ∨ (word 16908#16 w = 0x4204#16 ∧ code 1 w = 1)
      ∨ (word 16908#16 w = 0x4208#16 ∧ code 1 w = 2) ∨ (word 16908#16 w = 0x420C#16 ∧ code 1 w = 3) := by decide +kernel
  rcases key w.toFin with ⟨h, hc⟩ | ⟨h, hc⟩ | ⟨h, hc⟩ | ⟨h, hc⟩ <;>
    (change word 16908#16 w = _ at h; change code 1 w = _ at hc
     rw [h, trit, hc]; simp [Ideal.ofBits, Ideal.ieee, -EReal.coe_mul, ← EReal.coe_sub]; try norm_num)

/-- What the kernel makes of field 2: 8 plus the code, less 9. -/
theorem kernel_trit2 (w : BitVec 8) :
    Ideal.ofBits .bf16 (word 16688#16 w) - Ideal.ofBits .bf16 0x4110#16 = trit 2 w := by
  have key : ∀ n : Fin 256, let w : BitVec 8 := BitVec.ofFin n
      (word 16688#16 w = 0x4100#16 ∧ code 2 w = 0) ∨ (word 16688#16 w = 0x4110#16 ∧ code 2 w = 1)
      ∨ (word 16688#16 w = 0x4120#16 ∧ code 2 w = 2) ∨ (word 16688#16 w = 0x4130#16 ∧ code 2 w = 3) := by decide +kernel
  rcases key w.toFin with ⟨h, hc⟩ | ⟨h, hc⟩ | ⟨h, hc⟩ | ⟨h, hc⟩ <;>
    (change word 16688#16 w = _ at h; change code 2 w = _ at hc
     rw [h, trit, hc]; simp [Ideal.ofBits, Ideal.ieee, -EReal.coe_mul, ← EReal.coe_sub]; try norm_num)

/-- What the kernel makes of field 3, 2 plus the code, less 3: for the codes 0, 1 and 2 only. (Code 3 would carry
    into the exponent: its pattern reads 6.) -/
theorem kernel_trit3 (w : BitVec 8) (hw : w.toNat < 192) :
    Ideal.ofBits .bf16 (word 16576#16 w) - Ideal.ofBits .bf16 0x4040#16 = trit 3 w := by
  have key : ∀ n : Fin 256, n.val < 192 → let w : BitVec 8 := BitVec.ofFin n
      (word 16576#16 w = 0x4000#16 ∧ code 3 w = 0) ∨ (word 16576#16 w = 0x4040#16 ∧ code 3 w = 1)
      ∨ (word 16576#16 w = 0x4080#16 ∧ code 3 w = 2) := by decide +kernel
  rcases key w.toFin hw with ⟨h, hc⟩ | ⟨h, hc⟩ | ⟨h, hc⟩ <;>
    (change word 16576#16 w = _ at h; change code 3 w = _ at hc
     rw [h, trit, hc]; simp [Ideal.ofBits, Ideal.ieee, -EReal.coe_mul, ← EReal.coe_sub]; try norm_num)

/-- The bound in `kernel_trit3` is needed: of byte 192, code 3 in field 3, the kernel makes 3, and the weight is 2. -/
theorem kernel_trit3_code3 :
    Ideal.ofBits .bf16 (word 16576#16 192#8) - Ideal.ofBits .bf16 0x4040#16 = ((3 : ℝ) : EReal)
      ∧ trit 3 192#8 = ((2 : ℝ) : EReal) := by
  have h : word 16576#16 192#8 = 0x40C0#16 := by decide
  have hc : code 3 192#8 = 3 := by decide
  rw [h, trit, hc]
  refine ⟨?_, by norm_num⟩
  simp [Ideal.ofBits, Ideal.ieee, -EReal.coe_mul, ← EReal.coe_sub]; norm_num

/-- What the reference makes of field 0: the byte shifted and masked, as a number, less one. -/
theorem reference_trit0 (w : BitVec 8) :
    (((((w.setWidth 32).sshiftRight 0) &&& 3#32).toInt : ℝ) : EReal) - Ideal.ofBits .bf16 0x3F80#16 = trit 0 w := by
  have key : ∀ n : Fin 256, (((((BitVec.ofFin n : BitVec 8).setWidth 32).sshiftRight 0) &&& 3#32).toInt
      = (code 0 (BitVec.ofFin n) : ℤ)) := by decide +kernel
  have h := key w.toFin
  change ((((w.setWidth 32).sshiftRight 0) &&& 3#32).toInt = (code 0 w : ℤ)) at h
  have h1 : Ideal.ofBits .bf16 0x3F80#16 = ((1 : ℝ) : EReal) := by
    simp [Ideal.ofBits, Ideal.ieee, -EReal.coe_mul]; norm_num
  rw [h, trit, h1, EReal.coe_sub]; simp

/-- What the reference makes of field 1: the byte shifted and masked, as a number, less one. -/
theorem reference_trit1 (w : BitVec 8) :
    (((((w.setWidth 32).sshiftRight 2) &&& 3#32).toInt : ℝ) : EReal) - Ideal.ofBits .bf16 0x3F80#16 = trit 1 w := by
  have key : ∀ n : Fin 256, (((((BitVec.ofFin n : BitVec 8).setWidth 32).sshiftRight 2) &&& 3#32).toInt
      = (code 1 (BitVec.ofFin n) : ℤ)) := by decide +kernel
  have h := key w.toFin
  change ((((w.setWidth 32).sshiftRight 2) &&& 3#32).toInt = (code 1 w : ℤ)) at h
  have h1 : Ideal.ofBits .bf16 0x3F80#16 = ((1 : ℝ) : EReal) := by
    simp [Ideal.ofBits, Ideal.ieee, -EReal.coe_mul]; norm_num
  rw [h, trit, h1, EReal.coe_sub]; simp

/-- What the reference makes of field 2: the byte shifted and masked, as a number, less one. -/
theorem reference_trit2 (w : BitVec 8) :
    (((((w.setWidth 32).sshiftRight 4) &&& 3#32).toInt : ℝ) : EReal) - Ideal.ofBits .bf16 0x3F80#16 = trit 2 w := by
  have key : ∀ n : Fin 256, (((((BitVec.ofFin n : BitVec 8).setWidth 32).sshiftRight 4) &&& 3#32).toInt
      = (code 2 (BitVec.ofFin n) : ℤ)) := by decide +kernel
  have h := key w.toFin
  change ((((w.setWidth 32).sshiftRight 4) &&& 3#32).toInt = (code 2 w : ℤ)) at h
  have h1 : Ideal.ofBits .bf16 0x3F80#16 = ((1 : ℝ) : EReal) := by
    simp [Ideal.ofBits, Ideal.ieee, -EReal.coe_mul]; norm_num
  rw [h, trit, h1, EReal.coe_sub]; simp

/-- What the reference makes of field 3: the byte shifted and masked, as a number, less one. -/
theorem reference_trit3 (w : BitVec 8) :
    (((((w.setWidth 32).sshiftRight 6) &&& 3#32).toInt : ℝ) : EReal) - Ideal.ofBits .bf16 0x3F80#16 = trit 3 w := by
  have key : ∀ n : Fin 256, (((((BitVec.ofFin n : BitVec 8).setWidth 32).sshiftRight 6) &&& 3#32).toInt
      = (code 3 (BitVec.ofFin n) : ℤ)) := by decide +kernel
  have h := key w.toFin
  change ((((w.setWidth 32).sshiftRight 6) &&& 3#32).toInt = (code 3 w : ℤ)) at h
  have h1 : Ideal.ofBits .bf16 0x3F80#16 = ((1 : ℝ) : EReal) := by
    simp [Ideal.ofBits, Ideal.ieee, -EReal.coe_mul]; norm_num
  rw [h, trit, h1, EReal.coe_sub]; simp

end Cert.Ternary

end
-- ==== Proof.Block.lean ====
/- What one grid point's kernel body leaves in its output block, first as an expression over the blocks it was
   given, then entry by entry. -/
module

public import proofs.«01_k».proof.Proof.Trit
public import proofs.«01_k».proof.Proof.Gen.KernelIdeal.Frame
public import Idealize.ShloMosaic.Lib.Pipeline.Value
public import Idealize.ShloMosaic.Lib.Pointwise
public import Idealize.ShloMosaic.Lib.Tactic

@[expose] public section

set_option maxRecDepth 16384

noncomputable section

namespace Cert.KernelIdeal.Block

open Cert.KernelIdeal Cert.KernelIdeal.Gen Cert.Ternary Idealize.ShloMosaic Idealize.ShloMosaic.TcCoe Idealize.SL.Sem

variable {F : FTy → Type} [FloatOps F]

/-- The offsets of a whole block are all zero. -/
theorem hz : (![0, 0] : Fin 2 → Nat) = fun _ => 0 := funext fun a => by fin_cases a <;> rfl

/-- The sixteen row blocks lie inside the byte block. -/
theorem inb_w (b : Fin 16) : ∀ a, (![128 * b.val, 0] : Fin 2 → Nat) a + S128x512.size a ≤ S2048x512.size a := by
  revert b; decide +kernel

/-- The column blocks lie inside the activations. -/
theorem inb_x (j : Fin 4) (b : Fin 16) :
    ∀ a, (![0, 2048 * j.val + 128 * b.val] : Fin 2 → Nat) a + S128x128.size a ≤ S128x8192.size a := by
  revert j b; decide +kernel

/-- Rows `128 b` to `128 b + 127` of the byte block. -/
def wRows (x2 : Vec F S2048x512 .i8) (b : Fin 16) : Vec F S128x512 .i8 :=
  View.ld x2 (Rect.unit (s := S2048x512) ![128 * b.val, 0] S128x512.size (inb_w b))

/-- The 128 columns of the activations that meet field `j` of row block `b`. -/
def xCols (x1 : Vec F S128x8192 .bf16) (j : Fin 4) (b : Fin 16) : Vec F S128x128 .bf16 :=
  View.ld x1 (Rect.unit (s := S128x8192) ![0, 2048 * j.val + 128 * b.val] S128x128.size (inb_x j b))

/-- The kernel's unpacking of one field of a block of bytes. -/
def field (mask c : BitVec 16) (w : Vec F S128x512 .i8) : FVec F S128x512 .bf16 :=
  subf (bitcastToFloat .bf16 (andi (ori (extui 16 w natLt_8_16) (broadcast S128x512 17152#16)) (broadcast S128x512 mask)))
    (broadcast S128x512 (Scalar.ofBits .bf16 c))

/-- One matrix product of the kernel: two blocks of activations against two unpacked fields. -/
def pair (wa wb : FVec F S128x512 .bf16) (xa xb : Vec F S128x128 .bf16) : FVec F S128x512 .f32 :=
  matmul dot_S128x256_S256x512_S128x512_1_0_0_1_n_n none
    (concatenate S128x256 1 [⟨S128x128, shapeCast S128x128 xa shapeCasts_S128x128_S128x128⟩,
      ⟨S128x128, shapeCast S128x128 xb shapeCasts_S128x128_S128x128⟩] concatenates_S128x128_S128x128_S128x256_d1)
    (concatenate S256x512 0 [⟨S128x512, wa⟩, ⟨S128x512, wb⟩] concatenates_S128x512_S128x512_S256x512_d0)
    (constant S128x512 .f32 0x00000000#32)

/-- Row block `b`, fields 0 and 1. -/
def lo (x1 : Vec F S128x8192 .bf16) (x2 : Vec F S2048x512 .i8) (b : Fin 16) : FVec F S128x512 .f32 :=
  pair (field 17155#16 0x4301#16 (wRows x2 b)) (field 16908#16 0x4204#16 (wRows x2 b)) (xCols x1 0 b) (xCols x1 1 b)

/-- Row block `b`, fields 2 and 3. -/
def hi (x1 : Vec F S128x8192 .bf16) (x2 : Vec F S2048x512 .i8) (b : Fin 16) : FVec F S128x512 .f32 :=
  pair (field 16688#16 0x4110#16 (wRows x2 b)) (field 16576#16 0x4040#16 (wRows x2 b)) (xCols x1 2 b) (xCols x1 3 b)

/-- The accumulator after all sixteen row blocks, in the order the kernel adds. -/
def total (x1 : Vec F S128x8192 .bf16) (x2 : Vec F S2048x512 .i8) : FVec F S128x512 .f32 :=
  addf (addf (addf (addf (addf (addf (addf (addf (addf (addf (addf (addf (addf (addf (addf (addf (addf (addf (addf (addf (addf (addf (addf (addf (addf (addf (addf (addf (addf (addf (addf (lo x1 x2 0) (hi x1 x2 0)) (lo x1 x2 1))
        (hi x1 x2 1)) (lo x1 x2 2))
        (hi x1 x2 2)) (lo x1 x2 3))
        (hi x1 x2 3)) (lo x1 x2 4))
        (hi x1 x2 4)) (lo x1 x2 5))
        (hi x1 x2 5)) (lo x1 x2 6))
        (hi x1 x2 6)) (lo x1 x2 7))
        (hi x1 x2 7)) (lo x1 x2 8))
        (hi x1 x2 8)) (lo x1 x2 9))
        (hi x1 x2 9)) (lo x1 x2 10))
        (hi x1 x2 10)) (lo x1 x2 11))
        (hi x1 x2 11)) (lo x1 x2 12))
        (hi x1 x2 12)) (lo x1 x2 13))
        (hi x1 x2 13)) (lo x1 x2 14))
        (hi x1 x2 14)) (lo x1 x2 15))
        (hi x1 x2 15)

set_option maxHeartbeats 4000000 in
/-- The body's output block as one expression over its input blocks. -/
theorem out_eq (c : Dev nD) (i : grid0.Coords) (a1 : Memref sig .tc .smem S1x1 .f32) (h1 : a1.IsWhole)
    (a2 : Memref sig .tc .vmem S128x8192 .bf16) (h2 : a2.IsWhole)
    (a3 : Memref sig .tc .vmem S2048x512 .i8) (h3 : a3.IsWhole)
    (a4 : Memref sig .tc .vmem S128x512 .bf16) (h4 : a4.IsWhole)
    (x0 : Vec F S1x1 .f32) (x1 : Vec F S128x8192 .bf16) (x2 : Vec F S2048x512 .i8) :
    out0_A_3 c i a1 h1 a2 h2 a3 h3 a4 h4 x0 x1 x2
      = truncf .bf16 (mulf (total x1 x2) (broadcast S128x512 (x0 (ix2 0 0)))) bitsLt_bf16_f32 := by
  unfold out0_A_3
  rw [View.read_writes_eq_canon _ _ _ (cover0_A_3 c i a1 h1 a2 h2 a3 h3 a4 h4 x0 x1 x2)]
  unfold kernelRun0_A
  dsimp only
  rw [View.canon_unit_zero hz]
  sl_unfold_words
  simp only [View.readAt_eq_ld, h1.read_unread, h2.read_unread, h3.read_unread]
  have hs : View.ld x0 (Rect.unit ![0, 0] ![1, 1] inb_S1x1_S1x1_0_0) (Shape.Idx.first (by decide)) = x0 (ix2 0 0) :=
    congrArg x0 (funext fun a => by fin_cases a <;> exact Subsingleton.elim (α := Fin 1) _ _)
  refine Eq.trans ?_ (congrArg (fun s => truncf .bf16 (mulf (total x1 x2) (broadcast S128x512 s)) bitsLt_bf16_f32) hs)
  rfl

end Cert.KernelIdeal.Block

end
-- ==== Proof.Entry.lean ====
/- The kernel body's output block over the extended reals, entry by entry. -/
module

public import proofs.«01_k».proof.Proof.Block
public import Idealize.ShloMosaic.Lib.Pipeline.ValueKit

@[expose] public section

set_option maxRecDepth 16384

noncomputable section

namespace Cert.KernelIdeal.Block

open Cert.KernelIdeal Cert.KernelIdeal.Gen Cert.Ternary Idealize.ShloMosaic Idealize.ShloMosaic.TcCoe Idealize.SL.Sem

/-- Field 0 unpacked by the kernel, at an entry: the weight. -/
theorem field0_apply (w : Vec Ideal S128x512 .i8) (i : S128x512.Idx) :
    field (F := Ideal) 17155#16 0x4301#16 w i = trit 0 (w i) := kernel_trit0 (w i)
/-- Field 1 unpacked by the kernel, at an entry: the weight. -/
theorem field1_apply (w : Vec Ideal S128x512 .i8) (i : S128x512.Idx) :
    field (F := Ideal) 16908#16 0x4204#16 w i = trit 1 (w i) := kernel_trit1 (w i)
/-- Field 2 unpacked by the kernel, at an entry: the weight. -/
theorem field2_apply (w : Vec Ideal S128x512 .i8) (i : S128x512.Idx) :
    field (F := Ideal) 16688#16 0x4110#16 w i = trit 2 (w i) := kernel_trit2 (w i)
/-- Field 3 unpacked by the kernel, at an entry: the weight, if the code is 0, 1 or 2. -/
theorem field3_apply (w : Vec Ideal S128x512 .i8) (i : S128x512.Idx) (hw : (w i).toNat < 192) :
    field (F := Ideal) 16576#16 0x4040#16 w i = trit 3 (w i) := kernel_trit3 (w i) hw

/-- One product of the kernel at an entry: two sums over 128 rows. -/
theorem pair_apply (wa wb : FVec Ideal S128x512 .bf16) (xa xb : Vec Ideal S128x128 .bf16) (p : Fin 128) (q : Fin 512) :
    pair wa wb xa xb (ix2 p q)
      = ((∑ k : Fin 128, xa (ix2 p k) * wa (ix2 k q)) + ∑ k : Fin 128, xb (ix2 p k) * wb (ix2 k q) : EReal) := by
  unfold pair
  pointwise

/-- An entry of row block `b`. -/
theorem wRows_apply (x2 : Vec Ideal S2048x512 .i8) (b : Fin 16) (k : Fin 128) (q : Fin 512) :
    wRows x2 b (ix2 k q) = x2 (ix2 ⟨128 * b.val + k.val, by omega⟩ q) :=
  View.ld_unit_apply_of x2 _ _ _ _ _ (fun a => by fin_cases a <;> simp)

/-- An entry of the activations that meet field `j` of row block `b`. -/
theorem xCols_apply (x1 : Vec Ideal S128x8192 .bf16) (j : Fin 4) (b : Fin 16) (p k : Fin 128) :
    xCols x1 j b (ix2 p k) = x1 (ix2 p ⟨2048 * j.val + (128 * b.val + k.val), by omega⟩) :=
  View.ld_unit_apply_of x1 _ _ _ _ _ (fun a => by fin_cases a <;> simp <;> omega)

/-- What row block `b` contributes to entry `(p, q)` through field `j`. -/
def part (x1 : Vec Ideal S128x8192 .bf16) (x2 : Vec Ideal S2048x512 .i8) (p : Fin 128) (q : Fin 512) (j : Fin 4)
    (b : Fin 16) : EReal :=
  ∑ k : Fin 128, x1 (ix2 p ⟨2048 * j.val + (128 * b.val + k.val), by omega⟩)
    * trit j.val (x2 (ix2 ⟨128 * b.val + k.val, by omega⟩ q))

/-- The product over fields 0 and 1 of row block `b`, at an entry. -/
theorem lo_apply (x1 : Vec Ideal S128x8192 .bf16) (x2 : Vec Ideal S2048x512 .i8) (b : Fin 16) (p : Fin 128)
    (q : Fin 512) : lo x1 x2 b (ix2 p q) = part x1 x2 p q 0 b + part x1 x2 p q 1 b := by
  unfold lo
  rw [pair_apply]
  simp only [field0_apply, field1_apply, wRows_apply, xCols_apply]
  rfl

/-- The product over fields 2 and 3 of row block `b`, at an entry. -/
theorem hi_apply (x1 : Vec Ideal S128x8192 .bf16) (x2 : Vec Ideal S2048x512 .i8) (hw : ∀ i, (x2 i).toNat < 192)
    (b : Fin 16) (p : Fin 128) (q : Fin 512) :
    hi x1 x2 b (ix2 p q) = part x1 x2 p q 2 b + part x1 x2 p q 3 b := by
  unfold hi
  have hw' : ∀ i, (wRows x2 b i).toNat < 192 := fun i => hw _
  rw [pair_apply]
  simp only [field2_apply, field3_apply _ _ (hw' _), wRows_apply, xCols_apply]
  rfl

/-- The accumulator's entry: the sum over fields and row blocks of what each contributes. -/
theorem total_apply (x1 : Vec Ideal S128x8192 .bf16) (x2 : Vec Ideal S2048x512 .i8) (hw : ∀ i, (x2 i).toNat < 192)
    (p : Fin 128) (q : Fin 512) :
    (total x1 x2 (ix2 p q) : EReal)
      = ((∑ b, part x1 x2 p q 0 b) + ∑ b, part x1 x2 p q 1 b) + (∑ b, part x1 x2 p q 2 b) + ∑ b, part x1 x2 p q 3 b := by
  have step : ∀ (a : FVec Ideal S128x512 .f32) (b : Fin 16),
      (addf (addf a (lo x1 x2 b)) (hi x1 x2 b) (ix2 p q) : EReal)
        = a (ix2 p q) + ((part x1 x2 p q 0 b + part x1 x2 p q 1 b) + (part x1 x2 p q 2 b + part x1 x2 p q 3 b)) := by
    intro a b
    change ((a (ix2 p q) + lo x1 x2 b (ix2 p q)) + hi x1 x2 b (ix2 p q) : EReal) = _
    rw [lo_apply, hi_apply x1 x2 hw, add_assoc]
  have first : (addf (lo x1 x2 0) (hi x1 x2 0) (ix2 p q) : EReal)
      = (part x1 x2 p q 0 0 + part x1 x2 p q 1 0) + (part x1 x2 p q 2 0 + part x1 x2 p q 3 0) := by
    change (lo x1 x2 0 (ix2 p q) + hi x1 x2 0 (ix2 p q) : EReal) = _
    rw [lo_apply, hi_apply x1 x2 hw]
  have all : (total x1 x2 (ix2 p q) : EReal)
      = ∑ b : Fin 16, ((part x1 x2 p q 0 b + part x1 x2 p q 1 b) + (part x1 x2 p q 2 b + part x1 x2 p q 3 b)) := by
    unfold total
    simp only [step, first, Fin.sum_univ_castSucc, Fin.sum_univ_zero, zero_add]
    rfl
  rw [all, Finset.sum_add_distrib, Finset.sum_add_distrib, Finset.sum_add_distrib, ← add_assoc]

/-- A sum over 2048 rows, sixteen blocks of 128. -/
theorem sum_rows (f : Fin 2048 → EReal) :
    ∑ r, f r = ∑ b : Fin 16, ∑ k : Fin 128, f ⟨128 * b.val + k.val, by omega⟩ := by
  rw [← Fintype.sum_prod_type', ← (finProdFinEquiv (m := 16) (n := 128)).sum_comp]
  exact Finset.sum_congr rfl fun x _ => congrArg f (Fin.ext (Nat.add_comm _ _))

/-- All 2048 rows of field `j` at entry `(p, q)`. -/
theorem sum_part (x1 : Vec Ideal S128x8192 .bf16) (x2 : Vec Ideal S2048x512 .i8) (p : Fin 128) (q : Fin 512)
    (j : Fin 4) :
    ∑ b, part x1 x2 p q j b
      = ∑ r : Fin 2048, (x1 (ix2 p ⟨2048 * j.val + r.val, by omega⟩) * trit j.val (x2 (ix2 r q)) : EReal) := by
  rw [sum_rows]; rfl

/-- The body's output block at entry `(p, q)`: the four fields' sums over all rows, added and scaled. -/
theorem out_apply (c : Dev nD) (i : grid0.Coords) (a1 : Memref sig .tc .smem S1x1 .f32) (h1 : a1.IsWhole)
    (a2 : Memref sig .tc .vmem S128x8192 .bf16) (h2 : a2.IsWhole)
    (a3 : Memref sig .tc .vmem S2048x512 .i8) (h3 : a3.IsWhole)
    (a4 : Memref sig .tc .vmem S128x512 .bf16) (h4 : a4.IsWhole)
    (x0 : Vec Ideal S1x1 .f32) (x1 : Vec Ideal S128x8192 .bf16) (x2 : Vec Ideal S2048x512 .i8)
    (hw : ∀ i, (x2 i).toNat < 192) (p : Fin 128) (q : Fin 512) :
    (out0_A_3 c i a1 h1 a2 h2 a3 h3 a4 h4 x0 x1 x2 (ix2 p q) : EReal)
      = ((((∑ r : Fin 2048, (x1 (ix2 p ⟨2048 * (0 : Fin 4).val + r.val, by omega⟩) * trit 0 (x2 (ix2 r q)) : EReal))
          + ∑ r : Fin 2048, (x1 (ix2 p ⟨2048 * (1 : Fin 4).val + r.val, by omega⟩) * trit 1 (x2 (ix2 r q)) : EReal))
          + ∑ r : Fin 2048, (x1 (ix2 p ⟨2048 * (2 : Fin 4).val + r.val, by omega⟩) * trit 2 (x2 (ix2 r q)) : EReal))
          + ∑ r : Fin 2048, (x1 (ix2 p ⟨2048 * (3 : Fin 4).val + r.val, by omega⟩) * trit 3 (x2 (ix2 r q)) : EReal))
        * x0 (ix2 0 0) := by
  rw [out_eq]
  change ((total x1 x2 (ix2 p q) : EReal) * x0 (ix2 0 0)) = _
  rw [total_apply x1 x2 hw, sum_part, sum_part, sum_part, sum_part]
  rfl

end Cert.KernelIdeal.Block

end
-- ==== Proof.Layer.lean ====
/- The layer both programs are shown to compute, as a function of the three arguments over the extended reals. -/
module

public import proofs.«01_k».proof.Proof.Trit
public import Idealize.ShloMosaic.Lib.Pointwise

@[expose] public section

noncomputable section

namespace Cert.Ternary

open Idealize.ShloMosaic

/-- Field `j`'s part of entry `(p, n)`: activations `2048 j` to `2048 j + 2047` of row `p` against the weights in field
    `j` of column `n`. -/
def fieldDot (x : Vec Ideal ⟨3, ![128, 1, 8192]⟩ .bf16) (w : Vec Ideal ⟨2, ![2048, 7168]⟩ .i8) (j : Fin 4)
    (p : Fin 128) (n : Fin 7168) : EReal :=
  ∑ r : Fin 2048, (x (ix3 p 0 ⟨2048 * j.val + r.val, by omega⟩) * trit j.val (w (ix2 r n)) : EReal)

/-- Entry `(p, n)` of the layer: the four fields' parts added, times the scale. -/
def layer (x : Vec Ideal ⟨3, ![128, 1, 8192]⟩ .bf16) (w : Vec Ideal ⟨2, ![2048, 7168]⟩ .i8) (s : EReal)
    (p : Fin 128) (n : Fin 7168) : EReal :=
  (fieldDot x w 0 p n + fieldDot x w 1 p n + fieldDot x w 2 p n + fieldDot x w 3 p n) * s

end Cert.Ternary

end
-- ==== Proof.Result.lean ====
/- The kernel's result array after a run: the layer, when no byte's last field holds code 3. -/
module

public import proofs.«01_k».proof.Proof.Entry
public import proofs.«01_k».proof.Proof.Layer

@[expose] public section

set_option maxRecDepth 16384

noncomputable section

namespace Cert.KernelIdeal.Result

open Cert.KernelIdeal Cert.KernelIdeal.Gen Cert.Ternary Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The activations on device `c`. -/
abbrev xs (c : Dev nD) : Vec Ideal S128x1x8192 .bf16 := m ((c : Thread nD τ).loc main_arg0)
/-- The packed weights on device `c`. -/
abbrev ws (c : Dev nD) : Vec Ideal S2048x7168 .i8 := m ((c : Thread nD τ).loc main_arg1)
/-- The scale on device `c`. -/
abbrev scale (c : Dev nD) : Vec Ideal S_ .f32 := m ((c : Thread nD τ).loc main_arg2)

/-- What the region finds in the scale's buffer: the scale. -/
theorem V_main_v0 (c : Dev nD) : V m c main_v0 = shapeCast S1x1 (scale m c) shapeCasts_S_S1x1 := by
  unfold V V0
  simp only [List.flatten_cons, List.flatten_nil, List.append_nil, hostOps0]
  after_results_simp
  rfl

/-- What the region finds in the activations' buffer: the activations, as a matrix. -/
theorem V_main_v1 (c : Dev nD) : V m c main_v1 = shapeCast S128x8192 (xs m c) shapeCasts_S128x1x8192_S128x8192 := by
  unfold V V0
  simp only [List.flatten_cons, List.flatten_nil, List.append_nil, hostOps0]
  after_results_simp
  rfl

/-- Every grid point's block of the activations starts at their start. -/
theorem idx1 : ∀ t : Fin cfg0.N, win0_1.index t 0 * win0_1.size 0 = 0 ∧ win0_1.index t 1 * win0_1.size 1 = 0 :=
  (by decide +kernel : ∀ t : Fin grid0.N, win0_1.index t 0 * win0_1.size 0 = 0 ∧ win0_1.index t 1 * win0_1.size 1 = 0)
/-- Grid point `t`'s block of the packed weights starts at column `512 t`. -/
theorem idx2 : ∀ t : Fin cfg0.N, win0_2.index t 0 * win0_2.size 0 = 0 ∧ win0_2.index t 1 * win0_2.size 1 = 512 * t.val :=
  (by decide +kernel : ∀ t : Fin grid0.N, win0_2.index t 0 * win0_2.size 0 = 0 ∧ win0_2.index t 1 * win0_2.size 1 = 512 * t.val)
/-- Grid point `t`'s block of the result starts at column `512 t`. -/
theorem idx3 : ∀ t : Fin cfg0.N, win0_3.index t 0 * win0_3.size 0 = 0 ∧ win0_3.index t 1 * win0_3.size 1 = 512 * t.val :=
  (by decide +kernel : ∀ t : Fin grid0.N, win0_3.index t 0 * win0_3.size 0 = 0 ∧ win0_3.index t 1 * win0_3.size 1 = 512 * t.val)

/-- The scale as a grid point reads it. -/
theorem blk0_apply (c : Dev nD) (t : Fin cfg0.N) :
    (iblk m c 0 t : Vec Ideal S1x1 .f32) (ix2 0 0) = scale m c ix0 := by
  change V m c main_v0 ((win0_0.rect t).idx (ix2 0 0)) = _
  rw [V_main_v0]
  exact congrArg (scale m c) (funext fun a => a.elim0)

/-- An entry of the activations as a matrix. -/
theorem cast_apply (x : Vec Ideal S128x1x8192 .bf16) (p : Fin 128) (k : Fin 8192) :
    shapeCast S128x8192 x shapeCasts_S128x1x8192_S128x8192 (ix2 p k) = x (ix3 p 0 k) := by
  pointwise

/-- The activations as a grid point reads them: all of them. -/
theorem blk1_apply (c : Dev nD) (t : Fin cfg0.N) (p : Fin 128) (k : Fin 8192) :
    (iblk m c 1 t : Vec Ideal S128x8192 .bf16) (ix2 p k) = xs m c (ix3 p 0 k) := by
  change V m c main_v1 ((win0_1.rect t).idx (ix2 p k)) = _
  rw [V_main_v1, ← cast_apply (xs m c) p k]
  refine congrArg _ (funext fun a => Fin.ext ?_)
  have e := idx1 t
  fin_cases a
  · show win0_1.index t 0 * win0_1.size 0 + 1 * p.val = p.val
    omega
  · show win0_1.index t 1 * win0_1.size 1 + 1 * k.val = k.val
    omega

/-- A column of grid point `t`'s block is a column of the array. -/
theorem col_lt (t : Fin cfg0.N) (q : Fin 512) : 512 * t.val + q.val < 7168 := by
  have := t.isLt; have hN : cfg0.N = 14 := N_0; omega

/-- The packed weights as grid point `t` reads them: columns `512 t` to `512 t + 511`. -/
theorem blk2_apply (c : Dev nD) (t : Fin cfg0.N) (r : Fin 2048) (q : Fin 512) :
    (iblk m c 2 t : Vec Ideal S2048x512 .i8) (ix2 r q) = ws m c (ix2 r ⟨512 * t.val + q.val, col_lt t q⟩) := by
  change V m c main_arg1 ((win0_2.rect t).idx (ix2 r q)) = _
  rw [V_main_arg1]
  refine congrArg _ (funext fun a => Fin.ext ?_)
  have e := idx2 t
  fin_cases a
  · show win0_2.index t 0 * win0_2.size 0 + 1 * r.val = r.val
    omega
  · show win0_2.index t 1 * win0_2.size 1 + 1 * q.val = 512 * t.val + q.val
    omega

/-- The region's result matrix. -/
def matrix (c : Dev nD) : Vec Ideal S128x7168 .bf16 := fun i => layer (xs m c) (ws m c) (scale m c ix0) (i 0) (i 1)

/-- What grid point `t` writes back is its block of the result matrix. -/
theorem flushed_eq (hw : ∀ c i, (ws m c i).toNat < 192) (c : Dev nD) (t : Fin cfg0.N) :
    (dats m 0 c).flushed 3 t = ((cfg0.win 3).blk t).view.read (Elt Ideal) (matrix m c) := by
  show (cfg0.win 3).cut (grid0.coords t) ((dats m 0 c).after 3 t) = _
  rw [after0_3]
  funext y
  obtain ⟨p, q, rfl⟩ : ∃ (p : Fin 128) (q : Fin 512), y = ix2 p q := ⟨y 0, y 1, eq_ix2 y⟩
  change out0_A_3 c (grid0.coords t) _ _ _ _ _ _ _ _ (iblk m c 0 t) (iblk m c 1 t) (iblk m c 2 t) (ix2 p q)
    = matrix m c ((win0_3.rect t).idx (ix2 p q))
  have hi : (win0_3.rect t).idx (ix2 p q) = ix2 p ⟨512 * t.val + q.val, col_lt t q⟩ := by
    funext a
    apply Fin.ext
    have e := idx3 t
    fin_cases a
    · show win0_3.index t 0 * win0_3.size 0 + 1 * p.val = p.val
      omega
    · show win0_3.index t 1 * win0_3.size 1 + 1 * q.val = 512 * t.val + q.val
      omega
  rw [hi]
  refine (Block.out_apply c (grid0.coords t) _ _ _ _ _ _ _ _ (iblk m c 0 t) (iblk m c 1 t) (iblk m c 2 t) ?_ p q).trans ?_
  · intro i
    obtain ⟨r, q, rfl⟩ : ∃ (r : Fin 2048) (q : Fin 512), i = ix2 r q := ⟨i 0, i 1, eq_ix2 i⟩
    rw [blk2_apply]; exact hw c _
  · simp only [blk0_apply, blk1_apply, blk2_apply]
    rfl

/-- The blocks cover the result matrix. -/
theorem cover (i : S128x7168.Idx) : ∃ t : Fin cfg0.N, (cfg0.win 3).flush t = true ∧ i ∈ ((cfg0.win 3).blk t).view.set := by
  have h0 : (i 0 : Nat) < 128 := (i 0).isLt
  have h1 : (i 1 : Nat) < 7168 := (i 1).isLt
  have hN : cfg0.N = 14 := N_0
  refine ⟨⟨(i 1 : Nat) / 512, by omega⟩, flush0_3 _, ?_⟩
  generalize ht : (⟨(i 1 : Nat) / 512, _⟩ : Fin cfg0.N) = t
  have hv : t.val = (i 1 : Nat) / 512 := by rw [← ht]
  show i ∈ ((View.whole main_v2).slice (win0_3.rect t)).set
  rw [View.set_slice_whole, Rect.mem_set_unit]
  have e := idx3 t
  intro a
  fin_cases a
  · show win0_3.index t 0 * win0_3.size 0 ≤ (i 0 : Nat) ∧ (i 0 : Nat) < win0_3.index t 0 * win0_3.size 0 + 128
    omega
  · show win0_3.index t 1 * win0_3.size 1 ≤ (i 1 : Nat) ∧ (i 1 : Nat) < win0_3.index t 1 * win0_3.size 1 + 512
    omega

/-- So the region's result array ends holding the result matrix. -/
theorem final_matrix (hw : ∀ c i, (ws m c i).toNat < 192) (c : Dev nD) : (dats m 0 c).arrAt 3 cfg0.N = matrix m c :=
  (dats m 0 c).arrAt_eq_of_cover 3 (matrix m c) (fun t _ => flushed_eq m hw c t) cover

/-- The host's reshape after the region reads the region's result array. -/
theorem tail_main_v3 (c : Dev nD) : Pipeline.afterTail₀ cfgs (dats m) 0 (V0 m) [hostOps1] c main_v3
    = shapeCast S128x1x7168 ((dats m 0 c).arrAt 3 cfg0.N) shapeCasts_S128x7168_S128x1x7168 := by
  unfold Pipeline.afterTail₀
  simp only [List.flatten_cons, List.flatten_nil, List.append_nil, hostOps1]
  after_results_simp
  exact congrArg (fun y => shapeCast S128x1x7168 y shapeCasts_S128x7168_S128x1x7168)
    (Pipeline.withArrays_arr spec0 launch0.win.arr_inj c (V0 m c) (fun w => (dats m 0 c).arrAt w cfg0.N) 3)

/-- An entry of the result matrix with its middle axis put back. -/
theorem uncast_apply (y : Vec Ideal S128x7168 .bf16) (p : Fin 128) (n : Fin 7168) :
    shapeCast S128x1x7168 y shapeCasts_S128x7168_S128x1x7168 (ix3 p 0 n) = y (ix2 p n) := by
  pointwise

/-- A run of the kernel: the result array holds the layer, and the arguments are unchanged. -/
theorem run (hw : ∀ c i, (ws m c i).toNat < 192) :
    θ_run defs (onTc (τ := τ) (main (F := Ideal))) ⟨m, fun _ => 0, ρ⟩ fun r => ∀ c : Dev nD,
      r.2.mem ((c.tc : Thread nD τ).loc main_v3)
          = (fun i => layer (xs m c) (ws m c) (scale m c ix0) (i 0) (i 2) : Vec Ideal S128x1x7168 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨by
      refine ((h c).2 main_v3 (Pipeline.mem_restRefs_of main_v3 (by decide) (by decide))).trans ?_
      rw [tail_main_v3, final_matrix m hw]
      funext i
      obtain ⟨p, z, n, rfl⟩ : ∃ (p : Fin 128) (z : Fin 1) (n : Fin 7168), i = ix3 p z n := ⟨i 0, i 1, i 2, eq_ix3 i⟩
      obtain rfl : z = 0 := Subsingleton.elim _ _
      exact uncast_apply _ p n,
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c)⟩)
    (run_main m ρ)

end Cert.KernelIdeal.Result

end
-- ==== Proof.Ref.lean ====
/- The reference's result, entry by entry, is the layer. -/
module

public import proofs.«01_k».proof.Proof.Layer
public import proofs.«01_k».proof.Proof.Gen.ReferenceIdeal.Run

@[expose] public section

set_option maxRecDepth 16384

noncomputable section

namespace Cert.ReferenceIdeal.Read

open Cert.ReferenceIdeal Cert.ReferenceIdeal.Gen Cert.Ternary Idealize.ShloMosaic Idealize.ShloMosaic.TcCoe Idealize.SL.Sem
open Cert.ReferenceIdeal.Facts

/-- The reference's unpacking of one field. -/
def weights (k : BitVec 32) (w : Vec Ideal S2048x7168 .i8) : FVec Ideal S2048x7168 .bf16 :=
  subf (sitofp .bf16 (andi (Host.shrsi (extui 32 w natLt_8_32)
      (broadcastInDim S2048x7168 ![] bcast_S_S2048x7168 (constantI S_ 32 k)))
      (broadcastInDim S2048x7168 ![] bcast_S_S2048x7168 (constantI S_ 32 3#32))))
    (broadcastInDim S2048x7168 ![] bcast_S_S2048x7168 (constant S_ .bf16 0x3F80#16))

/-- Field 0 unpacked by the reference, at an entry: the weight. -/
theorem weights0_apply (w : Vec Ideal S2048x7168 .i8) (i : S2048x7168.Idx) : weights 0#32 w i = trit 0 (w i) :=
  reference_trit0 (w i)
/-- Field 1 unpacked by the reference, at an entry: the weight. -/
theorem weights1_apply (w : Vec Ideal S2048x7168 .i8) (i : S2048x7168.Idx) : weights 2#32 w i = trit 1 (w i) :=
  reference_trit1 (w i)
/-- Field 2 unpacked by the reference, at an entry: the weight. -/
theorem weights2_apply (w : Vec Ideal S2048x7168 .i8) (i : S2048x7168.Idx) : weights 4#32 w i = trit 2 (w i) :=
  reference_trit2 (w i)
/-- Field 3 unpacked by the reference, at an entry: the weight. -/
theorem weights3_apply (w : Vec Ideal S2048x7168 .i8) (i : S2048x7168.Idx) : weights 6#32 w i = trit 3 (w i) :=
  reference_trit3 (w i)

/-- One of the reference's products at an entry. -/
theorem dot_apply (x : FVec Ideal S128x1x2048 .bf16) (w : FVec Ideal S2048x7168 .bf16) (p : Fin 128) (n : Fin 7168) :
    (Host.dotGeneral (F := Ideal) (so := S128x1x7168) (φ₁ := .bf16) (φ₂ := .f32) dot_S128x1x2048_S2048x7168_S128x1x7168_2_0_01_1_n_n none x w (ix3 p 0 n) : EReal)
      = ∑ r : Fin 2048, (x (ix3 p 0 r) * w (ix2 r n) : EReal) := by
  pointwise

/-- An entry of the activations that meet field `j`. -/
theorem slice_apply (x : Vec Ideal S128x1x8192 .bf16) (j : Fin 4) (h : S128x1x8192.Slices ![0, 0, 2048 * j.val] S128x1x2048)
    (p : Fin 128) (r : Fin 2048) :
    extractStridedSlice S128x1x2048 ![0, 0, 2048 * j.val] x h (ix3 p 0 r) = x (ix3 p 0 ⟨2048 * j.val + r.val, by omega⟩) := by
  pointwise

/-- Field `j`'s product in the reference at an entry. -/
theorem dot_slice_apply (x : Vec Ideal S128x1x8192 .bf16) (w : Vec Ideal S2048x7168 .i8) (j : Fin 4) (k : BitVec 32)
    (hs : S128x1x8192.Slices ![0, 0, 2048 * j.val] S128x1x2048) (hk : ∀ i, weights k w i = trit j.val (w i))
    (p : Fin 128) (n : Fin 7168) :
    (Host.dotGeneral (F := Ideal) (so := S128x1x7168) (φ₁ := .bf16) (φ₂ := .f32) dot_S128x1x2048_S2048x7168_S128x1x7168_2_0_01_1_n_n none
      (extractStridedSlice S128x1x2048 ![0, 0, 2048 * j.val] x hs) (weights k w) (ix3 p 0 n) : EReal)
      = fieldDot x w j p n := by
  rw [dot_apply]
  exact Finset.sum_congr rfl fun r _ => congrArg₂ (fun a b : EReal => a * b) (slice_apply x j hs p r) (hk _)

/-- The reference's last lines at an entry. -/
theorem scaled_apply (a0 a1 a2 a3 : FVec Ideal S128x1x7168 .f32) (s : FVec Ideal S_ .f32) (i : S128x1x7168.Idx) :
    (truncf .bf16 (mulf (addf (addf (addf a0 a1) a2) a3) (broadcastInDim S128x1x7168 ![] bcast_S_S128x1x7168 s))
      bitsLt_bf16_f32 i : EReal) = (((a0 i + a1 i) + a2 i) + a3 i) * s ix0 :=
  congrArg (fun y : EReal => ((((a0 i + a1 i) + a2 i) + a3 i : EReal)) * y) (congrArg s (funext fun a => a.elim0))

/-- A run of the reference: the result array holds the layer, and the arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v45)
          = (fun i => layer (m ((c.tc : Thread nD τ).loc main_arg0)) (m ((c.tc : Thread nD τ).loc main_arg1))
              ((m ((c.tc : Thread nD τ).loc main_arg2) : Vec Ideal S_ .f32) ix0) (i 0) (i 2) : Vec Ideal S128x1x7168 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (by
      funext i
      obtain ⟨p, z, n, rfl⟩ : ∃ (p : Fin 128) (z : Fin 1) (n : Fin 7168), i = ix3 p z n := ⟨i 0, i 1, i 2, eq_ix3 i⟩
      obtain rfl : z = 0 := Subsingleton.elim _ _
      refine (scaled_apply _ _ _ _ _ _).trans ?_
      refine congrArg (· * (m ((c.tc : Thread nD τ).loc main_arg2) : Vec Ideal S_ .f32) ix0) ?_
      exact congrArg₂ (· + ·) (congrArg₂ (· + ·) (congrArg₂ (· + ·)
        (dot_slice_apply _ _ 0 0#32 _ (weights0_apply _) p n) (dot_slice_apply _ _ 1 2#32 _ (weights1_apply _) p n))
        (dot_slice_apply _ _ 2 4#32 _ (weights2_apply _) p n)) (dot_slice_apply _ _ 3 6#32 _ (weights3_apply _) p n)),
      (h c).2⟩)
    (Value.run m ρ)

end Cert.ReferenceIdeal.Read

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import proofs.«01_k».proof.Proof.Ref
public import Idealize.ShloMosaic.Adequacy
public import Idealize.ShloMosaic.Init

@[expose] public section

noncomputable section

namespace Cert.Proof

open Idealize.ShloMosaic Idealize.SL.Sem

/-- The precondition's side conditions hold. -/
theorem preFacts : Cert.Pre_last_field_ternary.Facts := ⟨by decide, by decide⟩

/-- The reference's arguments end unchanged; it has no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Read.run m ρ)

/-- The precondition, read at a byte: it is below 192. -/
theorem bytes_lt (m : (ℓ : Loc Cert.KernelIdeal.nD Cert.KernelIdeal.τ Cert.KernelIdeal.sig) → Buf (Elt Ideal) ℓ)
    (h : Cert.Pre_KernelIdeal_last_field_ternary (hPre_last_field_ternary := preFacts) m) :
    ∀ c i, (Cert.KernelIdeal.Result.ws m c i).toNat < 192 := by
  intro c i
  have key : ∀ n : Fin 256, IntOp.cmpi .slt ((BitVec.ofFin n : BitVec 8).setWidth 32) 192#32 = 1#1 → n.val < 192 := by
    decide +kernel
  exact key (Cert.KernelIdeal.Result.ws m c i).toFin (congrFun (h c) i)

/-- When no byte's last field holds code 3, kernel and reference end with the same result: the layer. -/
theorem algebraic : Cert.algebraic_KernelIdeal_ReferenceIdeal_pre_last_field_ternary
    (hKernelIdeal := Cert.KernelIdeal.Gen.facts) (hReferenceIdeal := Cert.ReferenceIdeal.Gen.facts)
    (hPre_last_field_ternary := preFacts) := by
  intro m ρ m' ρ' hpre hagree
  refine ⟨_, Cert.KernelIdeal.Result.run m ρ (bytes_lt m hpre), ?_⟩
  refine (θ_run Cert.ReferenceIdeal.defs _ _).mono (fun _ h c => ⟨(h c).1.trans ?_, (h c).2⟩)
    (Cert.ReferenceIdeal.Read.run m' ρ')
  rw [(hagree c).1, (hagree c).2.1, (hagree c).2.2]

/-- Everything claimed. -/
theorem claim : Cert.Claim :=
  ⟨Cert.Kernel.Gen.facts, Cert.KernelIdeal.Gen.facts, Cert.ReferenceIdeal.Gen.facts, preFacts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    trivial,
    algebraic⟩

end Cert.Proof

end
